-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x4096x3584 : Shape := ⟨3, ![6, 4096, 3584]⟩
abbrev S6x4096x1 : Shape := ⟨3, ![6, 4096, 1]⟩
abbrev S1792x3584 : Shape := ⟨2, ![1792, 3584]⟩
abbrev S1792 : Shape := ⟨1, ![1792]⟩
abbrev S24576x3584 : Shape := ⟨2, ![24576, 3584]⟩
abbrev S24x8x128 : Shape := ⟨3, ![24, 8, 128]⟩
abbrev S24576x1792 : Shape := ⟨2, ![24576, 1792]⟩
abbrev S2048x3584 : Shape := ⟨2, ![2048, 3584]⟩
abbrev S2x8x128 : Shape := ⟨3, ![2, 8, 128]⟩
abbrev S2048x1792 : Shape := ⟨2, ![2048, 1792]⟩
abbrev S1x1792 : Shape := ⟨2, ![1, 1792]⟩
abbrev S1024x3584 : Shape := ⟨2, ![1024, 3584]⟩
abbrev S1024x1792 : Shape := ⟨2, ![1024, 1792]⟩
abbrev S1x8x128 : Shape := ⟨3, ![1, 8, 128]⟩
abbrev S8x128 : Shape := ⟨2, ![8, 128]⟩
abbrev S128x8 : Shape := ⟨2, ![128, 8]⟩
abbrev S128x1792 : Shape := ⟨2, ![128, 1792]⟩
abbrev S128x1 : Shape := ⟨2, ![128, 1]⟩
abbrev S6x4096x1792 : Shape := ⟨3, ![6, 4096, 1792]⟩

abbrev nBuf : Space → Nat
  | .hbm => 8
  | .vmem => 8
  | .smem => 0
  | _ => 0

abbrev bufTy : (tb : Table) → Fin (tcTables nBuf tb) → BufTy
  | .hbm, ⟨0, _⟩ => ⟨S6x4096x3584, .fp8e4m3⟩
  | .hbm, ⟨1, _⟩ => ⟨S6x4096x1, .f32⟩
  | .hbm, ⟨2, _⟩ => ⟨S1792x3584, .fp8e4m3⟩
  | .hbm, ⟨3, _⟩ => ⟨S1792, .f32⟩
  | .hbm, ⟨4, _⟩ => ⟨S24576x3584, .fp8e4m3⟩
  | .hbm, ⟨5, _⟩ => ⟨S24x8x128, .f32⟩
  | .hbm, ⟨6, _⟩ => ⟨S24576x1792, .bf16⟩
  | .hbm, ⟨7, _⟩ => ⟨S6x4096x1792, .bf16⟩
  | .local _ .vmem, ⟨0, _⟩ => ⟨S2048x3584, .fp8e4m3⟩
  | .local _ .vmem, ⟨1, _⟩ => ⟨S2048x3584, .fp8e4m3⟩
  | .local _ .vmem, ⟨2, _⟩ => ⟨S2x8x128, .f32⟩
  | .local _ .vmem, ⟨3, _⟩ => ⟨S2x8x128, .f32⟩
  | .local _ .vmem, ⟨4, _⟩ => ⟨S1792x3584, .fp8e4m3⟩
  | .local _ .vmem, ⟨5, _⟩ => ⟨S1792, .f32⟩
  | .local _ .vmem, ⟨6, _⟩ => ⟨S2048x1792, .bf16⟩
  | .local _ .vmem, ⟨7, _⟩ => ⟨S2048x1792, .bf16⟩
  | _, _ => ⟨S6x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x3584 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1792x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S6x4096x3584 : Shape := ⟨3, ![6, 4096, 3584]⟩
abbrev S6x4096x1 : Shape := ⟨3, ![6, 4096, 1]⟩
abbrev S1792x3584 : Shape := ⟨2, ![1792, 3584]⟩
abbrev S1792 : Shape := ⟨1, ![1792]⟩
abbrev S6x4096x1792 : Shape := ⟨3, ![6, 4096, 1792]⟩
abbrev S1x1x1792 : Shape := ⟨3, ![1, 1, 1792]⟩

abbrev nBuf : Space → Nat
  | .hbm => 5
  | .vmem => 5
  | .smem => 0
  | _ => 0

abbrev bufTy : (tb : Table) → Fin (tcTables nBuf tb) → BufTy
  | .hbm, ⟨0, _⟩ => ⟨S6x4096x3584, .fp8e4m3⟩
  | .hbm, ⟨1, _⟩ => ⟨S6x4096x1, .f32⟩
  | .hbm, ⟨2, _⟩ => ⟨S1792x3584, .fp8e4m3⟩
  | .hbm, ⟨3, _⟩ => ⟨S1792, .f32⟩
  | .hbm, ⟨4, _⟩ => ⟨S6x4096x1792, .bf16⟩
  | .local _ .vmem, ⟨0, _⟩ => ⟨S6x4096x3584, .fp8e4m3⟩
  | .local _ .vmem, ⟨1, _⟩ => ⟨S6x4096x1, .f32⟩
  | .local _ .vmem, ⟨2, _⟩ => ⟨S1792x3584, .fp8e4m3⟩
  | .local _ .vmem, ⟨3, _⟩ => ⟨S1792, .f32⟩
  | .local _ .vmem, ⟨4, _⟩ => ⟨S6x4096x1792, .bf16⟩
  | _, _ => ⟨S6x4096x3584, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S6x4096x3584 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S6x4096x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1792x3584 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1792 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x4096x1792 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Block.lean ====
/- What one grid point of the kernel computes. The body takes 2048 rows of `x`, two slabs of 1024 rows each; it multiplies a
   slab by the transposed weights and writes the product back in eight strips of 128 rows, each strip scaled by a column of the
   transposed activation scales and by the weights' scales. Here the sixteen strips are put together: the block written back is
   ONE function `block` of the four input blocks, index by index. -/
module

public import proofs.«01_k».proof.Proof.Gen.KernelIdeal.Frame
public import Idealize.ShloMosaic.Lib.Pipeline.Value
public import Idealize.ShloMosaic.Lib.ValueIdx
public import Idealize.ShloMosaic.Lib.ValueLayout
public import Idealize.ShloMosaic.Lib.MatmulPlain

@[expose] public section

noncomputable section

namespace Cert.KernelIdeal.Value

open Cert.KernelIdeal Cert.KernelIdeal.Gen Idealize.ShloMosaic Idealize.ShloMosaic.ValueIdx
open scoped BigOperators

/-- What a grid point leaves in its block of the result, at row `r` and column `n`: the inner product of row `r` of its rows
    of `x` with row `n` of the weights, times the activation scale of row `r` (which lies at `(r / 1024, r / 128 % 8, r % 128)`
    of the point's scale block), times the weights' scale of `n`. -/
def block (x : Vec Ideal S2048x3584 .fp8e4m3) (xs : Vec Ideal S2x8x128 .f32) (w : Vec Ideal S1792x3584 .fp8e4m3)
    (ws : Vec Ideal S1792 .f32) : Vec Ideal S2048x1792 .bf16 := fun i =>
  (∑ k : Fin 3584, x (ix2 (i 0) k) * w (ix2 (i 1) k))
    * xs (ix3 (⟨(i 0).val / 1024, by have := (i 0).isLt; simp at this; omega⟩ : Fin 2)
        (⟨(i 0).val / 128 % 8, Nat.mod_lt _ (by decide)⟩ : Fin 8) (⟨(i 0).val % 128, Nat.mod_lt _ (by decide)⟩ : Fin 128))
    * ws (ix1 (i 1))

/-- One strip of 128 rows as the body spells it: rows `o …` of the product, scaled by column `j` of the transposed activation
    scales and by the weights' scales, rounded to bf16. -/
def strip (o j : ℕ) (hA : S1024x1792.Slices ![o, 0] S128x1792) (hS : S128x8.Slices ![0, j] S128x1)
    (v : FVec Ideal S1x1792 .f32) (acc : FVec Ideal S1024x1792 .f32) (xst : FVec Ideal S128x8 .f32) : FVec Ideal S128x1792 .bf16 :=
  truncf .bf16 (mulf (mulf (extractStridedSlice S128x1792 ![o, 0] acc hA)
    (broadcastTo S128x1792 (extractStridedSlice S128x1 ![0, j] xst hS) broadcasts_S128x1_S128x1792))
    (broadcastTo S128x1792 v broadcasts_S1x1792_S128x1792)) bitsLt_bf16_f32

/-- A `[128, 1]` array broadcast along its second axis reads its one column. -/
theorem broadcastTo_col_apply (v : FVec Ideal S128x1 .f32) (p : Fin 128) (n : Fin 1792) :
    broadcastTo S128x1792 v broadcasts_S128x1_S128x1792 (ix2 p n) = v (ix2 p (0 : Fin 1)) :=
  broadcastTo_apply v _ _ _ fun ax => match ax with | ⟨0, _⟩ => rfl | ⟨1, _⟩ => rfl

/-- A strip read at an index: the product at row `o + p`, times the two scales. -/
theorem strip_apply (o j : ℕ) (hA hS v acc xst) (p : Fin 128) (n : Fin 1792) (r : Fin 1024) (hr : r.val = o + p.val)
    (q : Fin 8) (hq : q.val = j) :
    strip o j hA hS v acc xst (ix2 p n) = acc (ix2 r n) * xst (ix2 p q) * v (ix2 (0 : Fin 1) n) := by
  show extractStridedSlice S128x1792 ![o, 0] acc hA (ix2 p n)
      * broadcastTo S128x1792 (extractStridedSlice S128x1 ![0, j] xst hS) broadcasts_S128x1_S128x1792 (ix2 p n)
      * broadcastTo S128x1792 v broadcasts_S1x1792_S128x1792 (ix2 p n) = _
  rw [broadcastTo_col_apply]
  exact congrArg₂ (· * ·) (congrArg₂ (· * ·) (slice2_axis0_apply o acc hA p n r hr)
    (slice2_axis1_apply j xst hS p (0 : Fin 1) q (by rw [hq]; rfl))) (broadcastTo_1b_ab_apply v _ p n)

/-- A slab's product read at an index: the inner product of a row of the slab and a row of the weights. -/
theorem product_apply (w : Vec Ideal S1792x3584 .fp8e4m3) (x : Vec Ideal S1024x3584 .fp8e4m3) (r : Fin 1024) (n : Fin 1792) :
    k0_pay5 w x (ix2 r n) = ∑ k : Fin 3584, x (ix2 r k) * w (ix2 n k) := by
  show FloatOps.matmul (F := Ideal) (φ₁ := .fp8e4m3) (φ₂ := .fp8e4m3) (DotDims.transposedRhs 1024 3584 1792) none
    (shapeCast S1024x3584 x shapeCasts_S1024x3584_S1024x3584) w (constant S1024x1792 .f32 0x00000000#32) (ix2 r n) = _
  rw [shapeCast_self, Ideal.matmul_transposedRhs_apply]
  show Ideal.ofBits .f32 0x00000000#32 + _ = _
  rw [Ideal.ofBits_zero_f32, zero_add]

/-- The activation scales of a slab, transposed, read at an index. -/
theorem scales_apply (s : Vec Ideal S1x8x128 .f32) (p : Fin 128) (q : Fin 8) :
    k0_pay6 s (ix2 p q) = s (ix3 (0 : Fin 1) q p) :=
  (transpose_ix2_apply _ transposes_S8x128_p1_0_S128x8 p q).trans (shapeCast_1ab_ab_apply s shapeCasts_S1x8x128_S8x128 q p)

/-- The weights' scales as one row, read at an index. -/
theorem row_apply (ws : Vec Ideal S1792 .f32) (n : Fin 1792) : k0_pay4 ws (ix2 (0 : Fin 1) n) = ws (ix1 n) :=
  shapeCast_a_1a_apply ws shapeCasts_S1792_S1x1792 0 n

/-- Strip `j` of eight lies in the product of a slab. -/
theorem slices_rows (j : ℕ) (hj : j < 8) : S1024x1792.Slices ![128 * j, 0] S128x1792 :=
  ⟨rfl, fun a => match a with
    | ⟨0, _⟩ => show 128 * j + 128 ≤ 1024 by omega
    | ⟨1, _⟩ => show 0 + 1792 ≤ 1792 by omega⟩

/-- Column `j` of eight lies in the transposed activation scales. -/
theorem slices_col (j : ℕ) (hj : j < 8) : S128x8.Slices ![0, j] S128x1 :=
  ⟨rfl, fun a => match a with
    | ⟨0, _⟩ => show 0 + 128 ≤ 128 by omega
    | ⟨1, _⟩ => show j + 1 ≤ 8 by omega⟩

/-- THE STRIP `j` OF SLAB `t`, for every `t` and `j`: what the body stores at rows `1024 t + 128 j …` of its block is `block` of
    the input blocks on these rows. -/
theorem strip_eq (t j : ℕ) (hj : j < 8)
    (inbx : ∀ a, (![1024 * t, 0] : Fin 2 → ℕ) a + S1024x3584.size a ≤ S2048x3584.size a)
    (inbs : ∀ a, (![t, 0, 0] : Fin 3 → ℕ) a + S1x8x128.size a ≤ S2x8x128.size a)
    (inbo : ∀ a, (![1024 * t + 128 * j, 0] : Fin 2 → ℕ) a + S128x1792.size a ≤ S2048x1792.size a)
    (x : Vec Ideal S2048x3584 .fp8e4m3) (xs : Vec Ideal S2x8x128 .f32) (w : Vec Ideal S1792x3584 .fp8e4m3)
    (ws : Vec Ideal S1792 .f32) (y : S128x1792.Idx) :
    strip (128 * j) j (slices_rows j hj) (slices_col j hj) (k0_pay4 (View.ld ws r0_0))
        (k0_pay5 (View.ld w r0_1) (View.ld x (Rect.unit (s := S2048x3584) ![1024 * t, 0] S1024x3584.size inbx)))
        (k0_pay6 (View.ld xs (Rect.unit (s := S2x8x128) ![t, 0, 0] S1x8x128.size inbs))) y
      = block x xs w ws ((Rect.unit (s := S2048x1792) ![1024 * t + 128 * j, 0] S128x1792.size inbo).emb y) := by
  obtain ⟨p, n, rfl⟩ : ∃ (p : Fin 128) (n : Fin 1792), y = ix2 p n := ⟨y 0, y 1, eq_ix2 y⟩
  have hp := p.isLt
  have ht : t < 2 := by have := inbs 0; change t + 1 ≤ 2 at this; omega
  have hw : View.ld w r0_1 = w := View.ld_unit_zero (S := S1792x3584) (funext fun a => by fin_cases a <;> rfl) _ w
  have hws : View.ld ws r0_0 = ws := View.ld_unit_zero (S := S1792) (funext fun a => by fin_cases a; rfl) _ ws
  have e : (Rect.unit (s := S2048x1792) ![1024 * t + 128 * j, 0] S128x1792.size inbo).emb (ix2 p n)
      = (ix2 (⟨1024 * t + 128 * j + p.val, by omega⟩ : Fin 2048) n : S2048x1792.Idx) := by
    funext a; apply Fin.ext
    match a with
    | ⟨0, _⟩ => show 1024 * t + 128 * j + 1 * p.val = 1024 * t + 128 * j + p.val; omega
    | ⟨1, _⟩ => show 0 + 1 * n.val = n.val; omega
  rw [hw, hws, e, strip_apply (128 * j) j _ _ _ _ _ p n ⟨128 * j + p.val, by omega⟩ rfl ⟨j, hj⟩ rfl, product_apply, scales_apply, row_apply]
  refine congrArg (· * ws (ix1 n)) (congrArg₂ (· * ·) (Finset.sum_congr rfl fun k _ => congrArg (· * w (ix2 n k)) ?_) ?_)
  · refine congrArg x (funext fun a => Fin.ext ?_)
    match a with
    | ⟨0, _⟩ => show 1024 * t + 1 * (128 * j + p.val) = 1024 * t + 128 * j + p.val; omega
    | ⟨1, _⟩ => show 0 + 1 * k.val = k.val; omega
  · refine congrArg xs (funext fun a => Fin.ext ?_)
    match a with
    | ⟨0, _⟩ => show t + 1 * 0 = (1024 * t + 128 * j + p.val) / 1024; omega
    | ⟨1, _⟩ => show 0 + 1 * j = (1024 * t + 128 * j + p.val) / 128 % 8; omega
    | ⟨2, _⟩ => show 0 + 1 * p.val = (1024 * t + 128 * j + p.val) % 128; omega

/-- WHAT A GRID POINT COMPUTES: the sixteen strips the body stores are, together, `block` of its input blocks. -/
theorem out_eq (x : Vec Ideal S2048x3584 .fp8e4m3) (xs : Vec Ideal S2x8x128 .f32) (w : Vec Ideal S1792x3584 .fp8e4m3)
    (ws : Vec Ideal S1792 .f32) : out0_4 x xs w ws = block x xs w ws := by
  funext y
  unfold out0_4
  refine View.canon_apply_of_pieces (block x xs w ws) _ ?_ y (cover0_4 _ _ _ _ _ _ _ _ _ _ _ _ _ _ _ _ y)
  have slab0 := fun j hj inbo => strip_eq 0 j hj inb_S2048x3584_S1024x3584_0_0 inb_S2x8x128_S1x8x128_0_0_0 inbo x xs w ws
  have slab1 := fun j hj inbo => strip_eq 1 j hj inb_S2048x3584_S1024x3584_1024_0 inb_S2x8x128_S1x8x128_1_0_0 inbo x xs w ws
  simp only [List.forall_mem_cons, List.not_mem_nil, false_imp_iff, implies_true, and_true]
  exact ⟨slab1 7 (by decide) inb_S2048x1792_S128x1792_1920_0,
    slab1 6 (by decide) inb_S2048x1792_S128x1792_1792_0,
    slab1 5 (by decide) inb_S2048x1792_S128x1792_1664_0,
    slab1 4 (by decide) inb_S2048x1792_S128x1792_1536_0,
    slab1 3 (by decide) inb_S2048x1792_S128x1792_1408_0,
    slab1 2 (by decide) inb_S2048x1792_S128x1792_1280_0,
    slab1 1 (by decide) inb_S2048x1792_S128x1792_1152_0,
    slab1 0 (by decide) inb_S2048x1792_S128x1792_1024_0,
    slab0 7 (by decide) inb_S2048x1792_S128x1792_896_0,
    slab0 6 (by decide) inb_S2048x1792_S128x1792_768_0,
    slab0 5 (by decide) inb_S2048x1792_S128x1792_640_0,
    slab0 4 (by decide) inb_S2048x1792_S128x1792_512_0,
    slab0 3 (by decide) inb_S2048x1792_S128x1792_384_0,
    slab0 2 (by decide) inb_S2048x1792_S128x1792_256_0,
    slab0 1 (by decide) inb_S2048x1792_S128x1792_128_0,
    slab0 0 (by decide) inb_S2048x1792_S128x1792_0_0⟩

end Cert.KernelIdeal.Value

end
-- ==== Proof.Array.lean ====
/- What the kernel's result array holds after the twelve grid points: point `t` writes rows `2048 t …`, and together the points
   write every row, so the array is ONE function `array` of the arrays the region is launched on, index by index. -/
module

public import proofs.«01_k».proof.Proof.Block

@[expose] public section

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ)

/-- The whole result, at row `r` and column `n`: the inner product of row `r` of `x` with row `n` of the weights, times the
    activation scale of row `r` (at `(r / 1024, r / 128 % 8, r % 128)` of the scales laid out in tiles), times the weights'
    scale of `n`. -/
def array (x : Vec Ideal S24576x3584 .fp8e4m3) (xs : Vec Ideal S24x8x128 .f32) (w : Vec Ideal S1792x3584 .fp8e4m3)
    (ws : Vec Ideal S1792 .f32) : Vec Ideal S24576x1792 .bf16 := fun i =>
  (∑ k : Fin 3584, x (ix2 (i 0) k) * w (ix2 (i 1) k))
    * xs (ix3 (⟨(i 0).val / 1024, by have := (i 0).isLt; simp at this; omega⟩ : Fin 24)
        (⟨(i 0).val / 128 % 8, Nat.mod_lt _ (by decide)⟩ : Fin 8) (⟨(i 0).val % 128, Nat.mod_lt _ (by decide)⟩ : Fin 128))
    * ws (ix1 (i 1))

/-- Where each window's block lies at point `t`: block `t` along the rows of `x`, of the activation scales and of the result;
    the weights and their scales whole. -/
theorem idx_facts : ∀ t : Fin cfg0.N, (win0_0.index t (0 : Fin 2) = t.val ∧ win0_0.index t (1 : Fin 2) = 0)
    ∧ (win0_1.index t (0 : Fin 3) = t.val ∧ win0_1.index t (1 : Fin 3) = 0 ∧ win0_1.index t (2 : Fin 3) = 0)
    ∧ (win0_2.index t (0 : Fin 2) = 0 ∧ win0_2.index t (1 : Fin 2) = 0)
    ∧ win0_3.index t (0 : Fin 1) = 0
    ∧ (win0_4.index t (0 : Fin 2) = t.val ∧ win0_4.index t (1 : Fin 2) = 0) :=
  (by decide +kernel : ∀ t : Fin grid0.N, _)

/-- A point's number is below twelve. -/
theorem point_lt (t : Fin cfg0.N) : t.val < 12 := lt_of_lt_of_eq t.isLt N_0

/-- Row `r` of point `t`'s block of `x` is row `2048 t + r` of the array. -/
theorem emb_x (t : Fin cfg0.N) (r : Fin 2048) (k : Fin 3584) : ((cfg0.win 0).blk t).view.emb (ix2 r k : S2048x3584.Idx)
    = (ix2 (⟨2048 * t.val + r.val, by have := point_lt t; omega⟩ : Fin 24576) k : S24576x3584.Idx) := by
  obtain ⟨⟨e0, e1⟩, -⟩ := idx_facts t
  funext a; apply Fin.ext
  match a with
  | ⟨0, _⟩ => show win0_0.index t (0 : Fin 2) * 2048 + 1 * r.val = 2048 * t.val + r.val; omega
  | ⟨1, _⟩ => show win0_0.index t (1 : Fin 2) * 3584 + 1 * k.val = k.val; omega

/-- Tile `s` of point `t`'s block of the activation scales is tile `2 t + s` of the array. -/
theorem emb_xs (t : Fin cfg0.N) (s : Fin 2) (q : Fin 8) (p : Fin 128) : ((cfg0.win 1).blk t).view.emb (ix3 s q p : S2x8x128.Idx)
    = (ix3 (⟨2 * t.val + s.val, by have := point_lt t; omega⟩ : Fin 24) q p : S24x8x128.Idx) := by
  obtain ⟨-, ⟨e0, e1, e2⟩, -⟩ := idx_facts t
  funext a; apply Fin.ext
  match a with
  | ⟨0, _⟩ => show win0_1.index t (0 : Fin 3) * 2 + 1 * s.val = 2 * t.val + s.val; omega
  | ⟨1, _⟩ => show win0_1.index t (1 : Fin 3) * 8 + 1 * q.val = q.val; omega
  | ⟨2, _⟩ => show win0_1.index t (2 : Fin 3) * 128 + 1 * p.val = p.val; omega

/-- Every point's block of the weights is the whole array. -/
theorem emb_w (t : Fin cfg0.N) (n : Fin 1792) (k : Fin 3584) :
    ((cfg0.win 2).blk t).view.emb (ix2 n k : S1792x3584.Idx) = (ix2 n k : S1792x3584.Idx) := by
  obtain ⟨-, -, ⟨e0, e1⟩, -⟩ := idx_facts t
  funext a; apply Fin.ext
  match a with
  | ⟨0, _⟩ => show win0_2.index t (0 : Fin 2) * 1792 + 1 * n.val = n.val; omega
  | ⟨1, _⟩ => show win0_2.index t (1 : Fin 2) * 3584 + 1 * k.val = k.val; omega

/-- Every point's block of the weights' scales is the whole array. -/
theorem emb_ws (t : Fin cfg0.N) (n : Fin 1792) : ((cfg0.win 3).blk t).view.emb (ix1 n : S1792.Idx) = (ix1 n : S1792.Idx) := by
  obtain ⟨-, -, -, e0, -⟩ := idx_facts t
  funext a; apply Fin.ext
  match a with
  | ⟨0, _⟩ => show win0_3.index t (0 : Fin 1) * 1792 + 1 * n.val = n.val; omega

/-- Row `r` of point `t`'s block of the result is row `2048 t + r` of the array. -/
theorem emb_y (t : Fin cfg0.N) (r : Fin 2048) (n : Fin 1792) : ((cfg0.win 4).blk t).view.emb (ix2 r n : S2048x1792.Idx)
    = (ix2 (⟨2048 * t.val + r.val, by have := point_lt t; omega⟩ : Fin 24576) n : S24576x1792.Idx) := by
  obtain ⟨-, -, -, -, e0, e1⟩ := idx_facts t
  funext a; apply Fin.ext
  match a with
  | ⟨0, _⟩ => show win0_4.index t (0 : Fin 2) * 2048 + 1 * r.val = 2048 * t.val + r.val; omega
  | ⟨1, _⟩ => show win0_4.index t (1 : Fin 2) * 1792 + 1 * n.val = n.val; omega

/-- WHAT POINT `t` WRITES BACK is its block of `array` of the arrays the region finds. -/
theorem flushed_eq (c : Dev nD) (t : Fin cfg0.N) :
    (dats m 0 c).flushed 4 t
      = ((cfg0.win 4).blk t).view.read (Elt Ideal) (array (V m c main_v0) (V m c main_v1) (V m c main_arg2) (V m c main_arg3)) := by
  show (cfg0.win 4).cut (grid0.coords t) ((dats m 0 c).after 4 t) = _
  rw [after0_4, out_eq]
  funext y
  obtain ⟨r, n, rfl⟩ : ∃ (r : Fin 2048) (n : Fin 1792), y = (ix2 r n : S2048x1792.Idx) := ⟨y 0, y 1, eq_ix2 y⟩
  have hr := r.isLt
  show block (iblk m c 0 t) (iblk m c 1 t) (iblk m c 2 t) (iblk m c 3 t) (ix2 r n)
    = array (V m c main_v0) (V m c main_v1) (V m c main_arg2) (V m c main_arg3) (((cfg0.win 4).blk t).view.emb (ix2 r n : S2048x1792.Idx))
  rw [emb_y]
  refine congrArg₂ (· * ·) (congrArg₂ (· * ·) (Finset.sum_congr rfl fun k _ => congrArg₂ (· * ·) ?_ ?_) ?_) ?_
  · exact congrArg (V m c main_v0) (emb_x t r k)
  · exact congrArg (V m c main_arg2) (emb_w t n k)
  · refine congrArg (V m c main_v1) ((emb_xs t _ _ _).trans (funext fun a => Fin.ext ?_))
    match a with
    | ⟨0, _⟩ => show 2 * t.val + r.val / 1024 = (2048 * t.val + r.val) / 1024; omega
    | ⟨1, _⟩ => show r.val / 128 % 8 = (2048 * t.val + r.val) / 128 % 8; omega
    | ⟨2, _⟩ => show r.val % 128 = (2048 * t.val + r.val) % 128; omega
  · exact congrArg (V m c main_arg3) (emb_ws t n)

/-- Every index of the array is in some point's block. -/
theorem covered (i : S24576x1792.Idx) : ∃ t : Fin cfg0.N, (cfg0.win 4).flush t = true ∧ i ∈ ((cfg0.win 4).blk t).view.set := by
  obtain ⟨r, n, rfl⟩ : ∃ (r : Fin 24576) (n : Fin 1792), i = (ix2 r n : S24576x1792.Idx) := ⟨i 0, i 1, eq_ix2 i⟩
  have hr := r.isLt
  refine ⟨⟨r.val / 2048, by show _ < grid0.N; rw [N_0]; omega⟩, flush0_4 _, ?_⟩
  have h := ((cfg0.win 4).blk ⟨r.val / 2048, by show _ < grid0.N; rw [N_0]; omega⟩).view.emb_mem_set
    (ix2 (⟨r.val % 2048, by omega⟩ : Fin 2048) n : S2048x1792.Idx)
  rw [emb_y] at h
  have e : (⟨2048 * (r.val / 2048) + r.val % 2048, by omega⟩ : Fin 24576) = r := Fin.ext (by simp only; omega)
  rwa [e] at h

/-- THE RESULT ARRAY AFTER THE GRID is `array` of the arrays the region finds. -/
theorem final (c : Dev nD) : (dats m 0 c).arrAt 4 cfg0.N
    = array (V m c main_v0) (V m c main_v1) (V m c main_arg2) (V m c main_arg3) :=
  (dats m 0 c).arrAt_eq_of_cover 4 _ (fun t _ => flushed_eq m c t) covered

end Cert.KernelIdeal.Value

end
-- ==== Proof.Run.lean ====
/- The kernel's run, read at its result: the two reshapes before the grid, the grid's array, and the reshape after it, as ONE
   function `linear` of the arguments, index by index. -/
module

public import proofs.«01_k».proof.Proof.Array
public import Idealize.ShloMosaic.Lib.Claim

@[expose] public section

noncomputable section

namespace Cert.KernelIdeal.Value

open Cert.KernelIdeal Cert.KernelIdeal.Gen Idealize.ShloMosaic Idealize.ShloMosaic.TcCoe Idealize.ShloMosaic.ValueIdx Idealize.SL.Sem
open Idealize.ShloMosaic.Pipeline (Dat)
open scoped BigOperators

variable (m : (ℓ : Loc nD τ sig) → Buf (Elt Ideal) ℓ) (ρ : Dev nD → PrngReg)

/-- The scaled linear map: at `(b, s, n)` the inner product of `x`'s row `(b, s)` with the weights' row `n`, times the row's
    activation scale, times the weights' scale of `n`. -/
def linear (x : Vec Ideal S6x4096x3584 .fp8e4m3) (xs : Vec Ideal S6x4096x1 .f32) (w : Vec Ideal S1792x3584 .fp8e4m3)
    (ws : Vec Ideal S1792 .f32) : Vec Ideal S6x4096x1792 .bf16 := fun i =>
  (∑ k : Fin 3584, x (ix3 (i 0) (i 1) k) * w (ix2 (i 2) k)) * xs (ix3 (i 0) (i 1) (0 : Fin 1)) * ws (ix1 (i 2))

/-- The grid's array of the reshaped arguments, reshaped to the result's shape, is `linear` of the arguments. -/
theorem shapeCast_array (x : Vec Ideal S6x4096x3584 .fp8e4m3) (xs : Vec Ideal S6x4096x1 .f32)
    (w : Vec Ideal S1792x3584 .fp8e4m3) (ws : Vec Ideal S1792 .f32) :
    shapeCast S6x4096x1792 (array (shapeCast S24576x3584 x shapeCasts_S6x4096x3584_S24576x3584)
      (shapeCast S24x8x128 xs shapeCasts_S6x4096x1_S24x8x128) w ws) shapeCasts_S24576x1792_S6x4096x1792 = linear x xs w ws := by
  funext i
  obtain ⟨b, s, n, rfl⟩ : ∃ (b : Fin 6) (s : Fin 4096) (n : Fin 1792), i = (ix3 b s n : S6x4096x1792.Idx) :=
    ⟨i 0, i 1, i 2, eq_ix3 i⟩
  have hb := b.isLt
  have hs := s.isLt
  refine (shapeCast_apply _ _ (ix3 b s n : S6x4096x1792.Idx)
    (ix2 (⟨4096 * b.val + s.val, by omega⟩ : Fin 24576) n : S24576x1792.Idx) ?_).trans ?_
  · rw [Shape.rowMajor_val_two, Shape.rowMajor_val_three]
    show (4096 * b.val + s.val) * 1792 + n.val = (b.val * 4096 + s.val) * 1792 + n.val
    omega
  refine congrArg (· * ws (ix1 n)) (congrArg₂ (· * ·) (Finset.sum_congr rfl fun k _ => congrArg (· * w (ix2 n k)) ?_) ?_)
  · refine shapeCast_apply x _ _ (ix3 b s k : S6x4096x3584.Idx) ?_
    rw [Shape.rowMajor_val_two, Shape.rowMajor_val_three]
    show (b.val * 4096 + s.val) * 3584 + k.val = (4096 * b.val + s.val) * 3584 + k.val
    omega
  · refine shapeCast_apply xs _ _ (ix3 b s (0 : Fin 1) : S6x4096x1.Idx) ?_
    rw [Shape.rowMajor_val_three, Shape.rowMajor_val_three]
    show (b.val * 4096 + s.val) * 1 + 0
      = ((4096 * b.val + s.val) / 1024 * 8 + (4096 * b.val + s.val) / 128 % 8) * 128 + (4096 * b.val + s.val) % 128
    omega

/-- The grid finds `x` reshaped to rows. -/
theorem V_main_v0 (c : Dev nD) : V m c main_v0
    = shapeCast S24576x3584 (m ((c : Thread nD τ).loc main_arg0)) shapeCasts_S6x4096x3584_S24576x3584 := rfl

/-- The grid finds the activation scales reshaped to tiles. -/
theorem V_main_v1 (c : Dev nD) : V m c main_v1
    = shapeCast S24x8x128 (m ((c : Thread nD τ).loc main_arg1)) shapeCasts_S6x4096x1_S24x8x128 := rfl

/-- WHAT THE RESULT HOLDS after the lines that follow the grid: `linear` of the arguments as launched. -/
theorem result (c : Dev nD) : Pipeline.afterTail₀ cfgs (dats m) 0 (V0 m) [hostOps1] c main_v3
    = linear (m ((c : Thread nD τ).loc main_arg0)) (m ((c : Thread nD τ).loc main_arg1))
        (m ((c : Thread nD τ).loc main_arg2)) (m ((c : Thread nD τ).loc main_arg3)) := by
  rw [← shapeCast_array, ← V_main_v0 m c, ← V_main_v1 m c, ← V_main_arg2 m c, ← V_main_arg3 m c, ← final m c]
  have h := Pipeline.withArrays_arr spec0 launch0.win.arr_inj c (V0 m c) (fun w => (dats m 0 c).arrAt w (cfgs 0).N) 4
  unfold Pipeline.afterTail₀
  after_results
  exact congrArg (fun v => shapeCast S6x4096x1792 v shapeCasts_S24576x1792_S6x4096x1792) h

/-- THE KERNEL'S RUN: its result is `linear` of the arguments, the arguments unchanged. -/
theorem run : θ_run defs (onTc (τ := τ) (main (F := Ideal))) ⟨m, fun _ => 0, ρ⟩ fun r => ∀ c : Dev nD,
      r.2.mem ((c : Thread nD τ).loc main_v3)
        = linear (m ((c : Thread nD τ).loc main_arg0)) (m ((c : Thread nD τ).loc main_arg1))
            (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c =>
    ⟨((h c).2 main_v3 (Pipeline.mem_restRefs_of main_v3 (by decide) (by decide))).trans (result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c)))⟩)
    (run_main m ρ)

end Cert.KernelIdeal.Value

end
-- ==== Proof.Reference.lean ====
/- What the reference computes, index by index: its one pallas_call multiplies the whole of `x` by the transposed weights and
   scales the product by the two broadcast scales. -/
module

public import proofs.«01_k».proof.Proof.Gen.ReferenceIdeal.Value
public import Idealize.ShloMosaic.Lib.ValueIdx
public import Idealize.ShloMosaic.Lib.ValueLayout
public import Idealize.ShloMosaic.Lib.MatmulPlain

@[expose] public section

noncomputable section

namespace Cert.ReferenceIdeal.Value

open Cert.ReferenceIdeal Cert.ReferenceIdeal.Gen Idealize.ShloMosaic Idealize.ShloMosaic.ValueIdx
open scoped BigOperators

/-- The reference's dot read at an index: the inner product of row `(b, s)` of `x` and row `n` of the weights. -/
theorem dot_apply (x : Vec Ideal S6x4096x3584 .fp8e4m3) (w : Vec Ideal S1792x3584 .fp8e4m3) (b : Fin 6) (s : Fin 4096)
    (n : Fin 1792) :
    FloatOps.matmul (F := Ideal) (φ₁ := .fp8e4m3) (φ₂ := .fp8e4m3) dot_S6x4096x3584_S1792x3584_S6x4096x1792_2_1_01_0_n_n none x w
        (constant S6x4096x1792 .f32 0x00000000#32) (ix3 b s n : S6x4096x1792.Idx)
      = ∑ k : Fin 3584, x (ix3 b s k) * w (ix2 n k) := by
  rw [Ideal.matmul_constant_zero_apply]
  refine ((contrEquiv1 dot_S6x4096x3584_S1792x3584_S6x4096x1792_2_1_01_0_n_n 3584 rfl rfl).symm.sum_comp _).symm.trans
    (Finset.sum_congr rfl fun k _ => congrArg₂ (· * ·) (congrArg x ?_) (congrArg w ?_))
  · funext a; apply Fin.ext
    match a with
    | ⟨0, _⟩ => rfl
    | ⟨1, _⟩ => rfl
    | ⟨2, _⟩ => rfl
  · funext a; apply Fin.ext
    match a with
    | ⟨0, _⟩ => rfl
    | ⟨1, _⟩ => rfl

/-- THE REFERENCE'S RESULT at `(b, s, n)`: the inner product, times the row's activation scale, times the weights' scale. -/
theorem G4_apply (x : Vec Ideal S6x4096x3584 .fp8e4m3) (xs : Vec Ideal S6x4096x1 .f32) (w : Vec Ideal S1792x3584 .fp8e4m3)
    (ws : Vec Ideal S1792 .f32) (b : Fin 6) (s : Fin 4096) (n : Fin 1792) :
    G4 x xs w ws (ix3 b s n : S6x4096x1792.Idx)
      = (∑ k : Fin 3584, x (ix3 b s k) * w (ix2 n k)) * xs (ix3 b s (0 : Fin 1)) * ws (ix1 n) := by
  refine congrArg₂ (· * ·) (congrArg₂ (· * ·) (dot_apply x w b s n) ?_) ?_
  · exact broadcastTo_apply xs _ _ _ fun a => match a with | ⟨0, _⟩ => rfl | ⟨1, _⟩ => rfl | ⟨2, _⟩ => rfl
  · refine (broadcastTo_apply _ _ _ (ix3 (0 : Fin 1) (0 : Fin 1) n : S1x1x1792.Idx)
      fun a => match a with | ⟨0, _⟩ => rfl | ⟨1, _⟩ => rfl | ⟨2, _⟩ => rfl).trans ?_
    refine shapeCast_apply ws _ _ _ ?_
    rw [Shape.rowMajor_val_one, Shape.rowMajor_val_three]
    show n.val = (0 * 1 + 0) * 1792 + n.val
    omega

end Cert.ReferenceIdeal.Value

end
-- ==== Proof.Equation.lean ====
/- The equation the value claim comes to: the reference's result and the kernel's `linear` are the same function of the
   arguments. -/
module

public import proofs.«01_k».proof.Proof.Run
public import proofs.«01_k».proof.Proof.Reference

@[expose] public section

noncomputable section

namespace Cert.Proof

open Idealize.ShloMosaic Idealize.ShloMosaic.ValueIdx

/-- The reference's result is `linear` of the arguments: both are the inner product times the row's activation scale times the
    weights' scale, at every index. -/
theorem reference_eq_linear (x : Vec Ideal KernelIdeal.S6x4096x3584 .fp8e4m3) (xs : Vec Ideal KernelIdeal.S6x4096x1 .f32)
    (w : Vec Ideal KernelIdeal.S1792x3584 .fp8e4m3) (ws : Vec Ideal KernelIdeal.S1792 .f32) :
    ReferenceIdeal.Value.G4 x xs w ws = KernelIdeal.Value.linear x xs w ws := by
  funext i
  obtain ⟨b, s, n, rfl⟩ : ∃ (b : Fin 6) (s : Fin 4096) (n : Fin 1792), i = (ix3 b s n : KernelIdeal.S6x4096x1792.Idx) :=
    ⟨i 0, i 1, i 2, eq_ix3 i⟩
  exact ReferenceIdeal.Value.G4_apply x xs w ws b s n

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Block
public import proofs.«01_k».proof.Proof.Array
public import proofs.«01_k».proof.Proof.Run
public import proofs.«01_k».proof.Proof.Reference
public import proofs.«01_k».proof.Proof.Equation
public import Idealize.ShloMosaic.Adequacy
public import Idealize.ShloMosaic.Init

@[expose] public section

noncomputable section

namespace Cert.Proof

open Idealize.ShloMosaic Idealize.ShloMosaic.TcCoe Idealize.SL.Sem

/-- THE VALUE CLAIM: from memories that agree on the arguments, the kernel and the reference both end with `linear` of the
    arguments as their result, the arguments unchanged. -/
theorem algebraic : algebraic_KernelIdeal_ReferenceIdeal (hKernelIdeal := Cert.KernelIdeal.Gen.facts)
    (hReferenceIdeal := Cert.ReferenceIdeal.Gen.facts) := fun m g m' g' _ agree =>
  ⟨fun c => KernelIdeal.Value.linear (m ((c : Thread KernelIdeal.nD KernelIdeal.τ).loc KernelIdeal.main_arg0))
      (m ((c : Thread KernelIdeal.nD KernelIdeal.τ).loc KernelIdeal.main_arg1))
      (m ((c : Thread KernelIdeal.nD KernelIdeal.τ).loc KernelIdeal.main_arg2))
      (m ((c : Thread KernelIdeal.nD KernelIdeal.τ).loc KernelIdeal.main_arg3)),
    KernelIdeal.Value.run m g,
    (θ_run _ _ _).mono (fun r h c => by
      obtain ⟨e0, e1, e2, e3⟩ := agree c
      refine ⟨(h c).1.trans ?_, (h c).2⟩
      rw [e0, e1, e2, e3]
      exact reference_eq_linear _ _ _ _) (ReferenceIdeal.Value.run m' g')⟩

/-- Everything the certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial, algebraic⟩

end Cert.Proof

end
